-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x4x32x64 : Shape := ⟨5, ![16, 64, 4, 32, 64]⟩
abbrev S4x64x128 : Shape := ⟨3, ![4, 64, 128]⟩
abbrev S4x128 : Shape := ⟨2, ![4, 128]⟩
abbrev S16x128x64x128 : Shape := ⟨4, ![16, 128, 64, 128]⟩
abbrev S2x64x4x32x64 : Shape := ⟨5, ![2, 64, 4, 32, 64]⟩
abbrev S2x128x64x128 : Shape := ⟨4, ![2, 128, 64, 128]⟩
abbrev S2x4x32x64x64 : Shape := ⟨5, ![2, 4, 32, 64, 64]⟩
abbrev S1x1x32x64x64 : Shape := ⟨5, ![1, 1, 32, 64, 64]⟩
abbrev S32x64x64 : Shape := ⟨3, ![32, 64, 64]⟩
abbrev S2048x64 : Shape := ⟨2, ![2048, 64]⟩
abbrev S1x64x128 : Shape := ⟨3, ![1, 64, 128]⟩
abbrev S64x128 : Shape := ⟨2, ![64, 128]⟩
abbrev S2048x128 : Shape := ⟨2, ![2048, 128]⟩
abbrev S1x128 : Shape := ⟨2, ![1, 128]⟩
abbrev S128 : Shape := ⟨1, ![128]⟩
abbrev S32x64x128 : Shape := ⟨3, ![32, 64, 128]⟩
abbrev S1x32x64x128 : Shape := ⟨4, ![1, 32, 64, 128]⟩
abbrev S_ : Shape := ⟨0, ![]⟩
abbrev S16x64 : Shape := ⟨2, ![16, 64]⟩

abbrev nBuf : Space → Nat
  | .hbm => 6
  | .vmem => 6
  | .smem => 0
  | _ => 0

abbrev bufTy : (tb : Table) → Fin (tcTables nBuf tb) → BufTy
  | .hbm, ⟨0, _⟩ => ⟨S16x64x4x32x64, .f32⟩
  | .hbm, ⟨1, _⟩ => ⟨S4x64x128, .f32⟩
  | .hbm, ⟨2, _⟩ => ⟨S4x128, .f32⟩
  | .hbm, ⟨3, _⟩ => ⟨S16x128x64x128, .f32⟩
  | .hbm, ⟨4, _⟩ => ⟨S_, .i32⟩
  | .hbm, ⟨5, _⟩ => ⟨S16x64, .i32⟩
  | .local _ .vmem, ⟨0, _⟩ => ⟨S2x64x4x32x64, .f32⟩
  | .local _ .vmem, ⟨1, _⟩ => ⟨S2x64x4x32x64, .f32⟩
  | .local _ .vmem, ⟨2, _⟩ => ⟨S4x64x128, .f32⟩
  | .local _ .vmem, ⟨3, _⟩ => ⟨S4x128, .f32⟩
  | .local _ .vmem, ⟨4, _⟩ => ⟨S2x128x64x128, .f32⟩
  | .local _ .vmem, ⟨5, _⟩ => ⟨S2x128x64x128, .f32⟩
  | _, _ => ⟨S16x64x4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x4x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x64x4x32x64 : Shape := ⟨5, ![16, 64, 4, 32, 64]⟩
abbrev S4x64x128 : Shape := ⟨3, ![4, 64, 128]⟩
abbrev S4x128 : Shape := ⟨2, ![4, 128]⟩
abbrev S4x128x16x64x32 : Shape := ⟨5, ![4, 128, 16, 64, 32]⟩
abbrev S16x64x4x32x128 : Shape := ⟨5, ![16, 64, 4, 32, 128]⟩
abbrev S1x1x4x1x128 : Shape := ⟨5, ![1, 1, 4, 1, 128]⟩
abbrev S_ : Shape := ⟨0, ![]⟩
abbrev S16x64x128x128 : Shape := ⟨4, ![16, 64, 128, 128]⟩
abbrev S16x128x64x128 : Shape := ⟨4, ![16, 128, 64, 128]⟩
abbrev S16x64 : Shape := ⟨2, ![16, 64]⟩

abbrev nBuf : Space → Nat
  | .hbm => 20
  | .vmem => 0
  | .smem => 0
  | _ => 0

abbrev bufTy : (tb : Table) → Fin (tcTables nBuf tb) → BufTy
  | .hbm, ⟨0, _⟩ => ⟨S16x64x4x32x64, .f32⟩
  | .hbm, ⟨1, _⟩ => ⟨S4x64x128, .f32⟩
  | .hbm, ⟨2, _⟩ => ⟨S4x128, .f32⟩
  | .hbm, ⟨3, _⟩ => ⟨S4x128x16x64x32, .f32⟩
  | .hbm, ⟨4, _⟩ => ⟨S16x64x4x32x128, .f32⟩
  | .hbm, ⟨5, _⟩ => ⟨S1x1x4x1x128, .f32⟩
  | .hbm, ⟨6, _⟩ => ⟨S16x64x4x32x128, .f32⟩
  | .hbm, ⟨7, _⟩ => ⟨S16x64x4x32x128, .f32⟩
  | .hbm, ⟨8, _⟩ => ⟨S_, .f32⟩
  | .hbm, ⟨9, _⟩ => ⟨S_, .f32⟩
  | .hbm, ⟨10, _⟩ => ⟨S16x64x4x32x128, .f32⟩
  | .hbm, ⟨11, _⟩ => ⟨S16x64x4x32x128, .i1⟩
  | .hbm, ⟨12, _⟩ => ⟨S_, .f32⟩
  | .hbm, ⟨13, _⟩ => ⟨S16x64x4x32x128, .f32⟩
  | .hbm, ⟨14, _⟩ => ⟨S16x64x4x32x128, .f32⟩
  | .hbm, ⟨15, _⟩ => ⟨S16x64x4x32x128, .f32⟩
  | .hbm, ⟨16, _⟩ => ⟨S16x64x128x128, .f32⟩
  | .hbm, ⟨17, _⟩ => ⟨S16x128x64x128, .f32⟩
  | .hbm, ⟨18, _⟩ => ⟨S_, .i32⟩
  | .hbm, ⟨19, _⟩ => ⟨S16x64, .i32⟩
  | _, _ => ⟨S16x64x4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Proof.Spec.lean ====
/- What the program computes, as plain mathematics over the extended reals, and the one scalar identity between the two
   ways of writing a leaky rectifier. Hand-written. -/
module

public import Idealize.ShloMosaic.Lib.Pointwise
public import Idealize.ShloMosaic.Init

@[expose] public section

noncomputable section

namespace Cert.Embed

open Idealize.ShloMosaic

/-- The slope on the negative side: the f32 word nearest to one tenth, read as an extended real. -/
def slope : EReal := Ideal.ofBits .f32 0x3DCCCCCD#32

/-- The slope is the rational its word denotes, 13421773 / 2 ^ 27. -/
theorem slope_eq : slope = ((13421773 / 134217728 : ℝ) : EReal) := by
  unfold slope
  simp [Ideal.ofBits, Ideal.ieee, -EReal.coe_mul]
  norm_num

/-- The slope is positive. -/
theorem slope_pos : 0 < slope := by
  rw [slope_eq]; exact_mod_cast (by norm_num : (0 : ℝ) < 13421773 / 134217728)

/-- The slope is at most one. -/
theorem slope_le_one : slope ≤ 1 := by
  rw [slope_eq]; exact_mod_cast (by norm_num : (13421773 / 134217728 : ℝ) ≤ 1)

/-- The leaky rectifier as the larger of a number and the scaled number. -/
def leaky (a : EReal) : EReal := max a (slope * a)

/-- On the nonnegative extended reals (infinity included) the rectifier is the identity. -/
theorem leaky_of_nonneg {a : EReal} (h : 0 ≤ a) : leaky a = a := by
  refine max_eq_left ?_
  calc slope * a ≤ 1 * a := mul_le_mul_of_nonneg_right slope_le_one h
    _ = a := one_mul a

/-- On the negative extended reals (minus infinity included) the rectifier scales. -/
theorem leaky_of_neg {a : EReal} (h : a < 0) : leaky a = slope * a := by
  refine max_eq_right ?_
  have hn : 0 ≤ -a := by rw [EReal.neg_nonneg]; exact h.le
  have h1 : slope * -a ≤ 1 * -a := mul_le_mul_of_nonneg_right slope_le_one hn
  rw [one_mul, mul_neg] at h1
  exact EReal.neg_le_neg_iff.mp h1

/-- Choosing by the sign and taking the larger are the same function on every extended real. -/
theorem select_eq_leaky (a : EReal) : (if 0 ≤ a then a else slope * a) = leaky a := by
  by_cases h : 0 ≤ a
  · rw [if_pos h, leaky_of_nonneg h]
  · rw [if_neg h, leaky_of_neg (not_le.mp h)]

/-- One element before the rectifier: the contraction over the 64 features plus the bias. -/
def cell (X : (⟨5, ![16, 64, 4, 32, 64]⟩ : Shape).Idx → EReal) (W : (⟨3, ![4, 64, 128]⟩ : Shape).Idx → EReal)
    (B : (⟨2, ![4, 128]⟩ : Shape).Idx → EReal) (t : Fin 16) (p : Fin 64) (o : Fin 4) (c : Fin 32) (k : Fin 128) : EReal :=
  (∑ f : Fin 64, X (ix5 t p o c f) * W (ix3 o f k)) + B (ix2 o k)

/-- The embedding array: row `r` of time `t` is slot `r % 32` of object kind `r / 32`. -/
def embed (X : (⟨5, ![16, 64, 4, 32, 64]⟩ : Shape).Idx → EReal) (W : (⟨3, ![4, 64, 128]⟩ : Shape).Idx → EReal)
    (B : (⟨2, ![4, 128]⟩ : Shape).Idx → EReal) (i : (⟨4, ![16, 128, 64, 128]⟩ : Shape).Idx) : EReal :=
  leaky (cell X W B (i 0) (i 2)
    ⟨(i 1).val / 32, by have h : (i 1).val < 128 := (i 1).isLt; omega⟩
    ⟨(i 1).val % 32, Nat.mod_lt _ (by omega)⟩ (i 3))

end Cert.Embed

end
-- ==== Proof.Tile.lean ====
/- What one tile of the kernel's body computes: eight times over (two time steps, four object kinds) it slices the
   transposed block, multiplies by that kind's weights, adds that kind's bias and rectifies. Hand-written. -/
module

public import proofs.«01_k».proof.Proof.Gen.KernelIdeal.Frame
public import proofs.«01_k».proof.Proof.Spec
public import Idealize.ShloMosaic.Lib.Pointwise

@[expose] public section

set_option maxRecDepth 16384

noncomputable section

namespace Cert.Embed.Tile

open Idealize.ShloMosaic Cert.KernelIdeal Cert.KernelIdeal.Gen

/-- The 2048 feature rows of one tile: the (slot, player) rows of time `t`, kind `o` of the transposed block. -/
def rows (t : Fin 2) (o : Fin 4) (h : S2x4x32x64x64.Slices ![t.val, o.val, 0, 0, 0] S1x1x32x64x64)
    (x : FVec Ideal S2x64x4x32x64 .f32) : FVec Ideal S2048x64 .f32 :=
  shapeCast S2048x64 (shapeCast S32x64x64 (extractStridedSlice S1x1x32x64x64 ![t.val, o.val, 0, 0, 0] (k0_pay2 x) h)
    shapeCasts_S1x1x32x64x64_S32x64x64) shapeCasts_S32x64x64_S2048x64

/-- The feature row of slot `c`, player `p` in a tile is that of the block. -/
theorem rows_apply (t : Fin 2) (o : Fin 4) (h : S2x4x32x64x64.Slices ![t.val, o.val, 0, 0, 0] S1x1x32x64x64)
    (x : FVec Ideal S2x64x4x32x64 .f32) (n : Fin 2048) (f : Fin 64) :
    rows t o h x (ix2 n f) = x (ix5 t (⟨n.val % 64, Nat.mod_lt _ (by omega)⟩ : Fin 64) o (⟨n.val / 64, by omega⟩ : Fin 32) f) := by
  unfold rows k0_pay2
  pointwise

/-- One tile from its feature rows, weights and bias: rows · weights + bias, rectified, as (1, slot, player, feature). -/
def tile (v : FVec Ideal S2048x64 .f32) (w : FVec Ideal S1x64x128 .f32) (b : FVec Ideal S1x128 .f32) :
    FVec Ideal S1x32x64x128 .f32 :=
  let a := addf (matmul dot_S2048x64_S64x128_S2048x128_1_0_0_1_n_n none v
      (shapeCast S64x128 w shapeCasts_S1x64x128_S64x128) (constant S2048x128 .f32 0x00000000#32))
    (broadcastTo S2048x128 (shapeCast S1x128 (shapeCast S128 b shapeCasts_S1x128_S128) shapeCasts_S128_S1x128)
      broadcasts_S1x128_S2048x128)
  shapeCast S1x32x64x128 (shapeCast S32x64x128
    (maximumf a (mulf (broadcast S2048x128 (Scalar.ofBits .f32 0x3DCCCCCD#32)) a))
    shapeCasts_S2048x128_S32x64x128) shapeCasts_S32x64x128_S1x32x64x128

/-- A tile at slot `c`, player `p`, feature `k`: the rectifier of the row's contraction with the weights plus the bias. -/
theorem tile_apply (v : FVec Ideal S2048x64 .f32) (w : FVec Ideal S1x64x128 .f32) (b : FVec Ideal S1x128 .f32)
    (u : Fin 1) (c : Fin 32) (p : Fin 64) (k : Fin 128) :
    tile v w b (ix4 u c p k) = leaky ((∑ f : Fin 64,
      v (ix2 (⟨c.val * 64 + p.val, by omega⟩ : Fin 2048) f) * w (ix3 (0 : Fin 1) f k)) + b (ix2 (0 : Fin 1) k)) := by
  unfold tile leaky slope
  pointwise

end Cert.Embed.Tile

end
-- ==== Proof.Block.lean ====
/- What one grid point's body leaves in the output block: the eight stored tiles are the tiles of one function of the
   block index. Hand-written. -/
module

public import proofs.«01_k».proof.Proof.Tile
public import Idealize.ShloMosaic.Lib.Pipeline.Value

@[expose] public section

set_option maxRecDepth 16384

noncomputable section

namespace Cert.Embed.Block

open Idealize.ShloMosaic Cert.KernelIdeal Cert.KernelIdeal.Gen

/-- One element of the block from the block's two time steps of features, the weights and the bias: local time `t`,
    kind `o`, slot `c`, player `p`, feature `k`. -/
def elem (x : FVec Ideal S2x64x4x32x64 .f32) (w : FVec Ideal S4x64x128 .f32) (b : FVec Ideal S4x128 .f32)
    (t : Fin 2) (o : Fin 4) (c : Fin 32) (p : Fin 64) (k : Fin 128) : EReal :=
  leaky ((∑ f : Fin 64, x (ix5 t p o c f) * w (ix3 o f k)) + b (ix2 o k))

/-- The block: row `r` of local time `t` is slot `r % 32` of kind `r / 32`. -/
def block (x : FVec Ideal S2x64x4x32x64 .f32) (w : FVec Ideal S4x64x128 .f32) (b : FVec Ideal S4x128 .f32) :
    FVec Ideal S2x128x64x128 .f32 := fun y =>
  elem x w b (y 0) ⟨(y 1).val / 32, by have h : (y 1).val < 128 := (y 1).isLt; omega⟩
    ⟨(y 1).val % 32, Nat.mod_lt _ (by omega)⟩ (y 2) (y 3)

/-- A tile of time `t` and kind `o`, from that kind's weights and bias, at slot `c`, player `p`, feature `k`. -/
theorem tile_at (t : Fin 2) (o : Fin 4) (h : S2x4x32x64x64.Slices ![t.val, o.val, 0, 0, 0] S1x1x32x64x64)
    (hw : ∀ a, ![o.val, 0, 0] a + S1x64x128.size a ≤ S4x64x128.size a)
    (hb : ∀ a, ![o.val, 0] a + S1x128.size a ≤ S4x128.size a)
    (x : FVec Ideal S2x64x4x32x64 .f32) (w : FVec Ideal S4x64x128 .f32) (b : FVec Ideal S4x128 .f32)
    (u : Fin 1) (c : Fin 32) (p : Fin 64) (k : Fin 128) :
    Tile.tile (Tile.rows t o h x) (View.ld (Val := Elt Ideal) (e' := .f32) w (Rect.unit (s := S4x64x128) ![o.val, 0, 0] S1x64x128.size hw))
      (View.ld (Val := Elt Ideal) (e' := .f32) b (Rect.unit (s := S4x128) ![o.val, 0] S1x128.size hb)) (ix4 u c p k) = elem x w b t o c p k := by
  rw [Tile.tile_apply, View.ld_unit, View.ld_unit]
  unfold elem
  simp only [Tile.rows_apply]
  pointwise
  have hp : (⟨(c.val * 64 + p.val) % 64, Nat.mod_lt _ (by omega)⟩ : Fin 64) = p := Fin.ext (by show _ % 64 = _; omega)
  have hc : (⟨(c.val * 64 + p.val) / 64, by omega⟩ : Fin 32) = c := Fin.ext (by show _ / 64 = _; omega)
  rw [hp, hc]

/-- Where the tile of time `t` and kind `o` lies in the block: its slot `c` is row `32 * o + c`. -/
theorem emb_tile (t : Fin 2) (o : Fin 4) (h : ∀ a, ![t.val, 32 * o.val, 0, 0] a + S1x32x64x128.size a ≤ S2x128x64x128.size a)
    (u : Fin 1) (c : Fin 32) (p : Fin 64) (k : Fin 128) :
    (Rect.unit (s := S2x128x64x128) ![t.val, 32 * o.val, 0, 0] S1x32x64x128.size h).emb (ix4 u c p k)
      = ix4 t (⟨32 * o.val + c.val, by omega⟩ : Fin 128) p k := by
  funext a
  apply Fin.ext
  match a with
  | ⟨0, _⟩ => show t.val + 1 * u.val = t.val; omega
  | ⟨1, _⟩ => show 32 * o.val + 1 * c.val = 32 * o.val + c.val; omega
  | ⟨2, _⟩ => show 0 + 1 * p.val = p.val; omega
  | ⟨3, _⟩ => show 0 + 1 * k.val = k.val; omega

/-- Each stored tile agrees with the block function on the rectangle it is stored to. -/
theorem tile_eq_block (t : Fin 2) (o : Fin 4) (h : S2x4x32x64x64.Slices ![t.val, o.val, 0, 0, 0] S1x1x32x64x64)
    (hw : ∀ a, ![o.val, 0, 0] a + S1x64x128.size a ≤ S4x64x128.size a)
    (hb : ∀ a, ![o.val, 0] a + S1x128.size a ≤ S4x128.size a)
    (hr : ∀ a, ![t.val, 32 * o.val, 0, 0] a + S1x32x64x128.size a ≤ S2x128x64x128.size a)
    (x : FVec Ideal S2x64x4x32x64 .f32) (w : FVec Ideal S4x64x128 .f32) (b : FVec Ideal S4x128 .f32) (y : S1x32x64x128.Idx) :
    Tile.tile (Tile.rows t o h x) (View.ld (Val := Elt Ideal) (e' := .f32) w (Rect.unit (s := S4x64x128) ![o.val, 0, 0] S1x64x128.size hw))
      (View.ld (Val := Elt Ideal) (e' := .f32) b (Rect.unit (s := S4x128) ![o.val, 0] S1x128.size hb)) y
    = block x w b ((Rect.unit (s := S2x128x64x128) ![t.val, 32 * o.val, 0, 0] S1x32x64x128.size hr).emb y) := by
  obtain ⟨u, c, p, k, rfl⟩ : ∃ u c p k, y = ix4 u c p k := ⟨y 0, y 1, y 2, y 3, eq_ix4 y⟩
  refine (tile_at t o h hw hb x w b _ _ _ _).trans ?_
  refine Eq.trans ?_ (congrArg (block x w b) (emb_tile t o hr _ _ _ _)).symm
  unfold block
  congr 1 <;> apply Fin.ext
  · show o.val = (32 * o.val + c.val) / 32
    have : c.val < 32 := c.isLt
    omega
  · show c.val = (32 * o.val + c.val) % 32
    have : c.val < 32 := c.isLt
    omega

/-- The offsets of the load of the whole feature block. -/
theorem zeros : (![0, 0, 0, 0, 0] : Fin 5 → Nat) = fun _ => 0 := by decide

/-- What the body leaves in the output block, at every index. -/
theorem out_apply (x : FVec Ideal S2x64x4x32x64 .f32) (w : FVec Ideal S4x64x128 .f32) (b : FVec Ideal S4x128 .f32)
    (y : S2x128x64x128.Idx) : out0_3 (F := Ideal) x w b y = block x w b y := by
  have hx : View.ld (Val := Elt Ideal) (e' := .f32) x r0_0 = x := View.ld_unit_zero (S := S2x64x4x32x64) (Val := Elt Ideal) (e := .f32) zeros _ x
  unfold out0_3 k0_pay14
  rw [hx]
  refine View.canon_apply_of_pieces (Val := Elt Ideal) (e := .f32) (block x w b) _ (fun q hq => ?_) y (cover0_3 _ _ _ _ _ _ _ _ y)
  simp only [List.mem_cons, List.not_mem_nil, or_false] at hq
  rcases hq with rfl | rfl | rfl | rfl | rfl | rfl | rfl | rfl
  · exact tile_eq_block 1 3 slices_S2x4x32x64x64_o1_3_0_0_0_S1x1x32x64x64 _ _ (by decide) x w b
  · exact tile_eq_block 1 2 slices_S2x4x32x64x64_o1_2_0_0_0_S1x1x32x64x64 _ _ (by decide) x w b
  · exact tile_eq_block 1 1 slices_S2x4x32x64x64_o1_1_0_0_0_S1x1x32x64x64 _ _ (by decide) x w b
  · exact tile_eq_block 1 0 slices_S2x4x32x64x64_o1_0_0_0_0_S1x1x32x64x64 _ _ (by decide) x w b
  · exact tile_eq_block 0 3 slices_S2x4x32x64x64_o0_3_0_0_0_S1x1x32x64x64 _ _ (by decide) x w b
  · exact tile_eq_block 0 2 slices_S2x4x32x64x64_o0_2_0_0_0_S1x1x32x64x64 _ _ (by decide) x w b
  · exact tile_eq_block 0 1 slices_S2x4x32x64x64_o0_1_0_0_0_S1x1x32x64x64 _ _ (by decide) x w b
  · exact tile_eq_block 0 0 slices_S2x4x32x64x64_o0_0_0_0_0_S1x1x32x64x64 _ _ (by decide) x w b

/-- A block whose features at local time `s` are the array's at time `T`, and whose weights and bias are the arrays',
    holds at local time `s` what the embedding array holds at time `T`. -/
theorem block_eq_embed (x : FVec Ideal S2x64x4x32x64 .f32) (w : FVec Ideal S4x64x128 .f32) (b : FVec Ideal S4x128 .f32)
    (X : FVec Ideal S16x64x4x32x64 .f32) (W : FVec Ideal S4x64x128 .f32) (B : FVec Ideal S4x128 .f32) (s : Fin 2) (T : Fin 16)
    (hx : ∀ p o q f, x (ix5 s p o q f) = X (ix5 T p o q f)) (hw : ∀ o f k, w (ix3 o f k) = W (ix3 o f k))
    (hb : ∀ o k, b (ix2 o k) = B (ix2 o k)) (r : Fin 128) (p : Fin 64) (k : Fin 128) :
    block x w b (ix4 s r p k) = embed X W B (ix4 T r p k) :=
  congrArg leaky (congrArg₂ (· + ·) (Finset.sum_congr rfl fun f _ => congrArg₂ (· * ·) (hx p _ _ f) (hw _ f k)) (hb _ k))

end Cert.Embed.Block

end
-- ==== Proof.Array.lean ====
/- What the kernel's run leaves: the result array is the embedding array of the arguments, the count array is the constant
   the host writes after the call, the arguments are unchanged. Hand-written. -/
module

public import proofs.«01_k».proof.Proof.Block
public import Idealize.ShloMosaic.Lib.Pipeline.ValueKit
public import Idealize.ShloMosaic.Lib.StableHlo.Run

@[expose] public section

set_option maxRecDepth 16384

noncomputable section

namespace Cert.Embed.Kernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The windows' block indices at a point: features and result step along time, weights and bias stay. -/
theorem index_eq : ∀ t : Fin grid0.N, win0_0.index t = ![t.val, 0, 0, 0, 0] ∧ win0_1.index t = ![0, 0, 0]
    ∧ win0_2.index t = ![0, 0] ∧ win0_3.index t = ![t.val, 0, 0, 0] := by decide +kernel

/-- The feature block of a point: its local time `s` is time `2 * t + s`. -/
theorem x_apply (c : Dev nD) (t : Fin cfg0.N) (s : Fin 2) (p : Fin 64) (o : Fin 4) (q : Fin 32) (f : Fin 64) (T : Fin 16)
    (hT : T.val = 2 * t.val + s.val) :
    (iblk m c 0 t : FVec Ideal S2x64x4x32x64 .f32) (ix5 s p o q f)
      = (m ((c : Thread nD τ).loc main_arg0) : FVec Ideal S16x64x4x32x64 .f32) (ix5 T p o q f) := by
  have e := (index_eq t).1
  blk_ext [iblk, V, e]

/-- The weights' block of a point is the whole array. -/
theorem w_apply (c : Dev nD) (t : Fin cfg0.N) (o : Fin 4) (f : Fin 64) (k : Fin 128) :
    (iblk m c 1 t : FVec Ideal S4x64x128 .f32) (ix3 o f k)
      = (m ((c : Thread nD τ).loc main_arg1) : FVec Ideal S4x64x128 .f32) (ix3 o f k) := by
  have e := (index_eq t).2.1
  blk_ext [iblk, V, e]

/-- The bias block of a point is the whole array. -/
theorem b_apply (c : Dev nD) (t : Fin cfg0.N) (o : Fin 4) (k : Fin 128) :
    (iblk m c 2 t : FVec Ideal S4x128 .f32) (ix2 o k)
      = (m ((c : Thread nD τ).loc main_arg2) : FVec Ideal S4x128 .f32) (ix2 o k) := by
  have e := (index_eq t).2.2.1
  blk_ext [iblk, V, e]

/-- The embedding array of device `c`'s arguments. -/
abbrev result (c : Dev nD) : Buf (Elt Ideal) ((c : Thread nD τ).loc main_v0) :=
  embed (m ((c : Thread nD τ).loc main_arg0)) (m ((c : Thread nD τ).loc main_arg1)) (m ((c : Thread nD τ).loc main_arg2))

/-- Where a point's block lies in the result array: its local time `s` is time `2 * t + s`. -/
theorem emb_eq (t : Fin cfg0.N) (s : Fin 2) (r : Fin 128) (p : Fin 64) (k : Fin 128) (T : Fin 16) (hT : T.val = 2 * t.val + s.val) :
    (((cfg0.win 3).blk t).view.emb (ix4 s r p k) : S16x128x64x128.Idx) = ix4 T r p k := by
  have e := (index_eq t).2.2.2
  blk_ext [e]

/-- The result array after the run is the embedding array of the arguments. -/
theorem final (c : Dev nD) : (dats m 0 c).arrAt 3 cfg0.N = result m c := by
  refine (dats m 0 c).arrAt_eq_of_covers 3 _ (by decide +kernel) fun t _ y => ?_
  blk_simp
  rw [after0_3]
  obtain ⟨s, r, p, k, rfl⟩ : ∃ (s : Fin 2) (r : Fin 128) (p : Fin 64) (k : Fin 128), y = ix4 s r p k :=
    ⟨y 0, y 1, y 2, y 3, eq_ix4 y⟩
  have ht : t.val < 8 := lt_of_lt_of_eq t.isLt N_0
  have hT : 2 * t.val + s.val < 16 := by omega
  refine (Block.out_apply _ _ _ (ix4 s r p k)).trans ?_
  refine Eq.trans ?_ (congrArg (result m c) (emb_eq t s r p k ⟨2 * t.val + s.val, hT⟩ rfl)).symm
  exact Block.block_eq_embed _ _ _ _ _ _ s ⟨2 * t.val + s.val, hT⟩
    (fun p o q f => x_apply m c t s p o q f _ rfl) (w_apply m c t) (b_apply m c t) r p k

/-- The count array: 128 everywhere. -/
abbrev countArray (c : Dev nD) : Buf (Elt Ideal) ((c : Thread nD τ).loc main_v1) :=
  broadcastInDim S16x64 ![] bcast_S_S16x64 (constantI S_ 32 128#32)

/-- The count array after the run: the host's two operations after the call, which read nothing. -/
theorem counts (c : Dev nD) : Pipeline.afterTail₀ cfgs (dats m) 0 (V0 m) [hostOps1] c main_v1 = countArray c := by
  show StableHlo.after hostOps1 _ (Proc.devRef .tc main_v1) = _
  after_results

/-- The kernel's run: both results named, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_v1) = countArray c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final m c),
      ((h c).2 main_v1 (by decide)).trans (counts m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Embed.Kernel

end
-- ==== Proof.Reference.lean ====
/- What the reference computes: its whole composed term, read at an index, is the embedding array. Hand-written. -/
module

public import proofs.«01_k».proof.Proof.Gen.ReferenceIdeal
public import proofs.«01_k».proof.Proof.Gen.ReferenceIdeal.Run
public import proofs.«01_k».proof.Proof.Spec
public import Idealize.ShloMosaic.Lib.Pointwise

@[expose] public section

set_option maxRecDepth 16384

noncomputable section

namespace Cert.Embed.Reference

open Idealize.ShloMosaic Cert.ReferenceIdeal Cert.ReferenceIdeal.Gen

/-- The reference's linear part: the contraction, its axes put in the order (time, player, kind, slot, feature), plus
    the bias along the time, player and slot axes. -/
abbrev linear (X : FVec Ideal S16x64x4x32x64 .f32) (W : FVec Ideal S4x64x128 .f32) (B : FVec Ideal S4x128 .f32) :
    FVec Ideal S16x64x4x32x128 .f32 :=
  addf (transpose S16x64x4x32x128 [2, 3, 0, 4, 1]
      (Host.dotGeneral dot_S4x64x128_S16x64x4x32x64_S4x128x16x64x32_1_4_2_013_0_2 none W X)
      transposes_S4x128x16x64x32_S16x64x4x32x128_2_3_0_4_1)
    (broadcastInDim S16x64x4x32x128 ![0, 1, 2, 3, 4] bcast_S1x1x4x1x128_S16x64x4x32x128_0_1_2_3_4
      (broadcastInDim S1x1x4x1x128 ![2, 4] bcast_S4x128_S1x1x4x1x128_2_4 B))

/-- The linear part at an index is one cell. -/
theorem linear_apply (X : FVec Ideal S16x64x4x32x64 .f32) (W : FVec Ideal S4x64x128 .f32) (B : FVec Ideal S4x128 .f32)
    (t : Fin 16) (p : Fin 64) (o : Fin 4) (c : Fin 32) (k : Fin 128) :
    linear X W B (ix5 t p o c k) = cell X W B t p o c k := by
  unfold linear cell
  pointwise
  exact congrArg (· + _) (Finset.sum_congr rfl fun f _ => mul_comm _ _)

/-- The rectified linear part at an index: the choice by the sign is the rectifier of the cell. -/
theorem rectified_apply (A : FVec Ideal S16x64x4x32x128 .f32)
    (t : Fin 16) (p : Fin 64) (o : Fin 4) (c : Fin 32) (k : Fin 128) :
    select (cmpf .oge A (broadcastInDim S16x64x4x32x128 ![] bcast_S_S16x64x4x32x128 (constant S_ .f32 0x00000000#32))) A
      (mulf (broadcastInDim S16x64x4x32x128 ![] bcast_S_S16x64x4x32x128 (id (constant S_ .f32 0x3DCCCCCD#32))) A)
      (ix5 t p o c k) = leaky (A (ix5 t p o c k)) := by
  rw [← select_eq_leaky]
  unfold slope
  pointwise
  rfl

/-- Merging (kind, slot) into one row axis and moving it before the players: row `r` is slot `r % 32` of kind `r / 32`. -/
theorem rows_apply (A : FVec Ideal S16x64x4x32x128 .f32) (t : Fin 16) (r : Fin 128) (p : Fin 64) (k : Fin 128) :
    transpose S16x128x64x128 [0, 2, 1, 3] (shapeCast _ A shapeCasts_S16x64x4x32x128_S16x64x128x128)
      transposes_S16x64x128x128_S16x128x64x128_0_2_1_3 (ix4 t r p k)
    = A (ix5 t p (⟨r.val / 32, by omega⟩ : Fin 4) (⟨r.val % 32, Nat.mod_lt _ (by omega)⟩ : Fin 32) k) := by
  pointwise

/-- The reference's first result, as its run composes it, is the embedding array of its arguments. -/
theorem result_eq (X : FVec Ideal S16x64x4x32x64 .f32) (W : FVec Ideal S4x64x128 .f32) (B : FVec Ideal S4x128 .f32) :
    transpose S16x128x64x128 [0, 2, 1, 3] (shapeCast _
      (select (cmpf .oge (linear X W B)
          (broadcastInDim S16x64x4x32x128 ![] bcast_S_S16x64x4x32x128 (constant S_ .f32 0x00000000#32)))
        (linear X W B)
        (mulf (broadcastInDim S16x64x4x32x128 ![] bcast_S_S16x64x4x32x128 (id (constant S_ .f32 0x3DCCCCCD#32))) (linear X W B)))
      shapeCasts_S16x64x4x32x128_S16x64x128x128) transposes_S16x64x128x128_S16x128x64x128_0_2_1_3
    = embed X W B := by
  funext i
  obtain ⟨t, r, p, k, rfl⟩ : ∃ t r p k, i = ix4 t r p k := ⟨i 0, i 1, i 2, i 3, eq_ix4 i⟩
  rw [rows_apply, rectified_apply, linear_apply]
  rfl

end Cert.Embed.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end, leaves its arguments unchanged and every semaphore at zero (it declares none). -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- From memories agreeing on the arguments, kernel and reference both end at the embedding array and the count array. -/
theorem algebraic : Cert.algebraic_KernelIdeal_ReferenceIdeal := by
  intro m ρ m' ρ' _ hagree
  refine ⟨fun c => Cert.Embed.Kernel.result m c, fun c => Cert.Embed.Kernel.countArray c,
    Cert.Embed.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.Embed.Reference.result_eq _ _ _

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
